-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x8 : Shape := ⟨3, ![8, 1024, 8]⟩
abbrev S1024x1 : Shape := ⟨2, ![1024, 1]⟩
abbrev S3 : Shape := ⟨1, ![3]⟩
abbrev S8x8x1024 : Shape := ⟨3, ![8, 8, 1024]⟩
abbrev S1x1024 : Shape := ⟨2, ![1, 1024]⟩
abbrev S8x8x128x128 : Shape := ⟨4, ![8, 8, 128, 128]⟩
abbrev S8x3x128x128 : Shape := ⟨4, ![8, 3, 128, 128]⟩
abbrev S1x3x1x1 : Shape := ⟨4, ![1, 3, 1, 1]⟩
abbrev S1x8x1024 : Shape := ⟨3, ![1, 8, 1024]⟩
abbrev S8x1024 : Shape := ⟨2, ![8, 1024]⟩
abbrev S3x1024 : Shape := ⟨2, ![3, 1024]⟩
abbrev S1x8x16x128 : Shape := ⟨4, ![1, 8, 16, 128]⟩
abbrev S16x1x1 : Shape := ⟨3, ![16, 1, 1]⟩
abbrev S1x128x1 : Shape := ⟨3, ![1, 128, 1]⟩
abbrev S2048x8 : Shape := ⟨2, ![2048, 8]⟩
abbrev S1x128 : Shape := ⟨2, ![1, 128]⟩
abbrev S1x1x128 : Shape := ⟨3, ![1, 1, 128]⟩
abbrev S1x128x128 : Shape := ⟨3, ![1, 128, 128]⟩
abbrev S16x1x128 : Shape := ⟨3, ![16, 1, 128]⟩
abbrev S16x128x128 : Shape := ⟨3, ![16, 128, 128]⟩
abbrev S2048x128 : Shape := ⟨2, ![2048, 128]⟩
abbrev S3x128 : Shape := ⟨2, ![3, 128]⟩
abbrev S5x128 : Shape := ⟨2, ![5, 128]⟩
abbrev S8x128 : Shape := ⟨2, ![8, 128]⟩
abbrev S128x8 : Shape := ⟨2, ![128, 8]⟩
abbrev S8x2048 : Shape := ⟨2, ![8, 2048]⟩
abbrev S8x16x128 : Shape := ⟨3, ![8, 16, 128]⟩

abbrev nBuf : Space → Nat
  | .hbm => 11
  | .vmem => 9
  | .smem => 0
  | _ => 0

abbrev bufTy : (tb : Table) → Fin (tcTables nBuf tb) → BufTy
  | .hbm, ⟨0, _⟩ => ⟨S8x1024x8, .f32⟩
  | .hbm, ⟨1, _⟩ => ⟨S1024x1, .f32⟩
  | .hbm, ⟨2, _⟩ => ⟨S3, .f32⟩
  | .hbm, ⟨3, _⟩ => ⟨S8x8x1024, .f32⟩
  | .hbm, ⟨4, _⟩ => ⟨S1x1024, .f32⟩
  | .hbm, ⟨5, _⟩ => ⟨S8x8x1024, .f32⟩
  | .hbm, ⟨6, _⟩ => ⟨S8x8x128x128, .f32⟩
  | .hbm, ⟨7, _⟩ => ⟨S8x3x128x128, .f32⟩
  | .hbm, ⟨8, _⟩ => ⟨S1x3x1x1, .f32⟩
  | .hbm, ⟨9, _⟩ => ⟨S8x3x128x128, .f32⟩
  | .hbm, ⟨10, _⟩ => ⟨S8x3x128x128, .f32⟩
  | .local _ .vmem, ⟨0, _⟩ => ⟨S1x8x1024, .f32⟩
  | .local _ .vmem, ⟨1, _⟩ => ⟨S1x8x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x16x128, .f32⟩
  | .local _ .vmem, ⟨8, _⟩ => ⟨S1x8x16x128, .f32⟩
  | _, _ => ⟨S8x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x8x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S8x1024x8 : Shape := ⟨3, ![8, 1024, 8]⟩
abbrev S1024x1 : Shape := ⟨2, ![1024, 1]⟩
abbrev S3 : Shape := ⟨1, ![3]⟩
abbrev S8x1024x2 : Shape := ⟨3, ![8, 1024, 2]⟩
abbrev S_ : Shape := ⟨0, ![]⟩
abbrev S8x1024x1 : Shape := ⟨3, ![8, 1024, 1]⟩
abbrev S8x1024 : Shape := ⟨2, ![8, 1024]⟩
abbrev S8x1024x3 : Shape := ⟨3, ![8, 1024, 3]⟩
abbrev S128 : Shape := ⟨1, ![128]⟩
abbrev S128x128 : Shape := ⟨2, ![128, 128]⟩
abbrev S16384x1 : Shape := ⟨2, ![16384, 1]⟩
abbrev S8x1x1024 : Shape := ⟨3, ![8, 1, 1024]⟩
abbrev S1x16384x1 : Shape := ⟨3, ![1, 16384, 1]⟩
abbrev S8x16384x1024 : Shape := ⟨3, ![8, 16384, 1024]⟩
abbrev S1x1024 : Shape := ⟨2, ![1, 1024]⟩
abbrev S1x1x1024 : Shape := ⟨3, ![1, 1, 1024]⟩
abbrev S8x16384x3 : Shape := ⟨3, ![8, 16384, 3]⟩
abbrev S1x3 : Shape := ⟨2, ![1, 3]⟩
abbrev S1x1x3 : Shape := ⟨3, ![1, 1, 3]⟩
abbrev S8x128x128x3 : Shape := ⟨4, ![8, 128, 128, 3]⟩
abbrev S8x3x128x128 : Shape := ⟨4, ![8, 3, 128, 128]⟩

abbrev nBuf : Space → Nat
  | .hbm => 135
  | .vmem => 0
  | .smem => 0
  | _ => 0

abbrev hbmTy0_0 (i : Nat) : BufTy := match i % 128 with
  | 0 => ⟨S8x1024x8, .f32⟩
  | 1 => ⟨S1024x1, .f32⟩
  | 2 => ⟨S3, .f32⟩
  | 3 => ⟨S8x1024x2, .f32⟩
  | 4 => ⟨S8x1024x2, .f32⟩
  | 5 => ⟨S8x1024x2, .f32⟩
  | 6 => ⟨S8x1024x2, .f32⟩
  | 7 => ⟨S_, .f32⟩
  | 8 => ⟨S8x1024x2, .f32⟩
  | 9 => ⟨S8x1024x2, .f32⟩
  | 10 => ⟨S8x1024x1, .f32⟩
  | 11 => ⟨S8x1024, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S_, .f32⟩
  | 18 => ⟨S8x1024, .f32⟩
  | 19 => ⟨S8x1024, .f32⟩
  | 20 => ⟨S_, .f32⟩
  | 21 => ⟨S8x1024, .f32⟩
  | 22 => ⟨S8x1024, .f32⟩
  | 23 => ⟨S_, .f32⟩
  | 24 => ⟨S8x1024, .f32⟩
  | 25 => ⟨S8x1024, .f32⟩
  | 26 => ⟨S8x1024x3, .f32⟩
  | 27 => ⟨S8x1024x1, .f32⟩
  | 28 => ⟨S8x1024, .f32⟩
  | 29 => ⟨S_, .f32⟩
  | 30 => ⟨S8x1024, .f32⟩
  | 31 => ⟨S8x1024, .f32⟩
  | 32 => ⟨S_, .f32⟩
  | 33 => ⟨S8x1024, .f32⟩
  | 34 => ⟨S8x1024, .f32⟩
  | 35 => ⟨S_, .f32⟩
  | 36 => ⟨S8x1024, .f32⟩
  | 37 => ⟨S8x1024, .f32⟩
  | 38 => ⟨S8x1024x1, .f32⟩
  | 39 => ⟨S8x1024, .f32⟩
  | 40 => ⟨S_, .f32⟩
  | 41 => ⟨S8x1024, .f32⟩
  | 42 => ⟨S8x1024, .f32⟩
  | 43 => ⟨S_, .f32⟩
  | 44 => ⟨S8x1024, .f32⟩
  | 45 => ⟨S8x1024, .f32⟩
  | 46 => ⟨S_, .f32⟩
  | 47 => ⟨S8x1024, .f32⟩
  | 48 => ⟨S8x1024, .f32⟩
  | 49 => ⟨S8x1024, .f32⟩
  | 50 => ⟨S8x1024, .f32⟩
  | 51 => ⟨S8x1024x1, .f32⟩
  | 52 => ⟨S8x1024, .f32⟩
  | 53 => ⟨S8x1024x1, .f32⟩
  | 54 => ⟨S8x1024, .f32⟩
  | 55 => ⟨S8x1024, .f32⟩
  | 56 => ⟨S8x1024x1, .f32⟩
  | 57 => ⟨S8x1024, .f32⟩
  | 58 => ⟨S8x1024x1, .f32⟩
  | 59 => ⟨S8x1024, .f32⟩
  | 60 => ⟨S8x1024, .f32⟩
  | 61 => ⟨S8x1024, .f32⟩
  | 62 => ⟨S8x1024, .f32⟩
  | 63 => ⟨S8x1024, .f32⟩
  | 64 => ⟨S8x1024, .f32⟩
  | 65 => ⟨S8x1024, .f32⟩
  | 66 => ⟨S8x1024, .f32⟩
  | 67 => ⟨S8x1024, .f32⟩
  | 68 => ⟨S8x1024, .f32⟩
  | 69 => ⟨S8x1024, .f32⟩
  | 70 => ⟨S8x1024, .f32⟩
  | 71 => ⟨S8x1024, .f32⟩
  | 72 => ⟨S8x1024, .f32⟩
  | 73 => ⟨S8x1024, .f32⟩
  | 74 => ⟨S8x1024, .f32⟩
  | 75 => ⟨S8x1024, .f32⟩
  | 76 => ⟨S8x1024, .f32⟩
  | 77 => ⟨S_, .f32⟩
  | 78 => ⟨S8x1024, .f32⟩
  | 79 => ⟨S8x1024, .f32⟩
  | 80 => ⟨S8x1024, .f32⟩
  | 81 => ⟨S8x1024, .f32⟩
  | 82 => ⟨S8x1024, .f32⟩
  | 83 => ⟨S8x1024, .f32⟩
  | 84 => ⟨S128, .f32⟩
  | 85 => ⟨S_, .f32⟩
  | 86 => ⟨S128, .f32⟩
  | 87 => ⟨S128, .f32⟩
  | 88 => ⟨S128, .f32⟩
  | 89 => ⟨S_, .f32⟩
  | 90 => ⟨S128, .f32⟩
  | 91 => ⟨S128, .f32⟩
  | 92 => ⟨S128x128, .f32⟩
  | 93 => ⟨S128x128, .f32⟩
  | 94 => ⟨S16384x1, .f32⟩
  | 95 => ⟨S8x1x1024, .f32⟩
  | 96 => ⟨S1x16384x1, .f32⟩
  | 97 => ⟨S8x16384x1024, .f32⟩
  | 98 => ⟨S8x16384x1024, .f32⟩
  | 99 => ⟨S8x16384x1024, .f32⟩
  | 100 => ⟨S16384x1, .f32⟩
  | 101 => ⟨S8x1x1024, .f32⟩
  | 102 => ⟨S1x16384x1, .f32⟩
  | 103 => ⟨S8x16384x1024, .f32⟩
  | 104 => ⟨S8x16384x1024, .f32⟩
  | 105 => ⟨S8x16384x1024, .f32⟩
  | 106 => ⟨S8x1x1024, .f32⟩
  | 107 => ⟨S8x16384x1024, .f32⟩
  | 108 => ⟨S8x16384x1024, .f32⟩
  | 109 => ⟨S8x16384x1024, .f32⟩
  | 110 => ⟨S8x1x1024, .f32⟩
  | 111 => ⟨S8x16384x1024, .f32⟩
  | 112 => ⟨S8x16384x1024, .f32⟩
  | 113 => ⟨S8x16384x1024, .f32⟩
  | 114 => ⟨S8x16384x1024, .f32⟩
  | 115 => ⟨S_, .f32⟩
  | 116 => ⟨S8x16384x1024, .f32⟩
  | 117 => ⟨S8x16384x1024, .f32⟩
  | 118 => ⟨S8x1x1024, .f32⟩
  | 119 => ⟨S8x16384x1024, .f32⟩
  | 120 => ⟨S8x16384x1024, .f32⟩
  | 121 => ⟨S8x16384x1024, .f32⟩
  | 122 => ⟨S8x16384x1024, .f32⟩
  | 123 => ⟨S1x1024, .f32⟩
  | 124 => ⟨S8x16384x1024, .f32⟩
  | 125 => ⟨S1x1x1024, .f32⟩
  | 126 => ⟨S8x16384x1024, .f32⟩
  | 127 => ⟨S8x16384x1024, .f32⟩
  | _ => ⟨S8x1024x8, .f32⟩

abbrev hbmTy0_1 (i : Nat) : BufTy := match i % 128 with
  | 0 => ⟨S8x16384x3, .f32⟩
  | 1 => ⟨S1x3, .f32⟩
  | 2 => ⟨S1x1x3, .f32⟩
  | 3 => ⟨S8x16384x3, .f32⟩
  | 4 => ⟨S8x16384x3, .f32⟩
  | 5 => ⟨S8x128x128x3, .f32⟩
  | 6 => ⟨S8x3x128x128, .f32⟩
  | _ => ⟨S8x1024x8, .f32⟩

abbrev hbmTy (i : Nat) : BufTy := match i / 128 with
  | 0 => hbmTy0_0 i
  | 1 => hbmTy0_1 i
  | _ => ⟨S8x1024x8, .f32⟩

abbrev bufTy : (tb : Table) → Fin (tcTables nBuf tb) → BufTy
  | .hbm, ⟨i, _⟩ => hbmTy i
  | _, _ => ⟨S8x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_12 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_13 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩

abbrev nD : Nat := 1
abbrev τ : Topo := Topo.v7x

variable {F : FTy → Type} [FloatOps F]
-- ==== Proof.Splat.lean ====
/- The mathematics of one Gaussian at one pixel, over the extended reals: the two ways in which the kernel and the
   reference write a Gaussian's weight, and the proof that they are equal. -/
module

public import Idealize.ShloMosaic.Lib.Pointwise

@[expose] public section

set_option maxRecDepth 16384

noncomputable section

namespace Cert.Splat

open Idealize.ShloMosaic

/-- The constant 0.5. -/
abbrev half : EReal := Ideal.ofBits .f32 0x3F000000#32
/-- The constant -0.5. -/
abbrev mhalf : EReal := Ideal.ofBits .f32 0xBF000000#32
/-- The constant 128.0, the image's side. -/
abbrev side : EReal := Ideal.ofBits .f32 0x43000000#32
/-- The constant 0.3 as a 32-bit float, the least scale. -/
abbrev least : EReal := Ideal.ofBits .f32 0x3E99999A#32

/-- A mean taken from [-1, 1] to pixels. -/
def mean (p : EReal) : EReal := half * (Ideal.tanh p + 1) * side
/-- The square of a scale. -/
def scaleSq (p : EReal) : EReal := (max p (-p) + least) * (max p (-p) + least)
/-- The angle as the kernel computes it: the logistic function times 2π. -/
def angleK (p : EReal) : EReal := Ideal.logistic p * Ideal.ofBits .f32 0x40C90FDB#32
/-- The angle as the reference computes it: the logistic function written out, times 2, times π. -/
def angleR (p : EReal) : EReal :=
  Ideal.div 1 (1 + Ideal.exp (-p)) * Ideal.ofBits .f32 0x40000000#32 * Ideal.ofBits .f32 0x40490FDB#32

/-- The covariance's first diagonal entry, from the cosine, the sine and the squared scales. -/
def sigA (c s u v : EReal) : EReal := c * c * u + s * s * v
/-- The covariance's entry off the diagonal. -/
def sigB (c s u v : EReal) : EReal := c * s * (u - v)
/-- The covariance's second diagonal entry. -/
def sigC (c s u v : EReal) : EReal := s * s * u + c * c * v
/-- One over the covariance's determinant. -/
def invDet (A B C : EReal) : EReal := Ideal.div 1 (A * C - B * B)

/-- The exponent as the kernel computes it, from the covariance and the pixel's offset from the mean: the factor -0.5
    is in the two coefficients. -/
def powerK (A B C dx dy : EReal) : EReal :=
  mhalf * C * invDet A B C * dx * dx + mhalf * A * invDet A B C * dy * dy - (0 - B) * invDet A B C * dx * dy
/-- The exponent as the reference computes it: the factor -0.5 is outside the sum. -/
def powerR (A B C dx dy : EReal) : EReal :=
  mhalf * (C * invDet A B C * dx * dx + A * invDet A B C * dy * dy) - -B * invDet A B C * dx * dy

/-- The constant two. -/
theorem two_val : Ideal.ofBits .f32 0x40000000#32 = ((2 : ℝ) : EReal) := by
  simp [Ideal.ofBits, Ideal.ieee, -EReal.coe_mul]; norm_num

/-- The reference's 32-bit π. -/
theorem pi_val : Ideal.ofBits .f32 0x40490FDB#32 = ((13176795 / 4194304 : ℝ) : EReal) := by
  simp [Ideal.ofBits, Ideal.ieee, -EReal.coe_mul]; norm_num

/-- The kernel's 32-bit 2π. -/
theorem twoPi_val : Ideal.ofBits .f32 0x40C90FDB#32 = ((13176795 / 2097152 : ℝ) : EReal) := by
  simp [Ideal.ofBits, Ideal.ieee, -EReal.coe_mul]; norm_num

/-- 2π as the kernel's constant is twice the reference's π. -/
theorem two_pi : Ideal.ofBits .f32 0x40C90FDB#32 = Ideal.ofBits .f32 0x40000000#32 * Ideal.ofBits .f32 0x40490FDB#32 := by
  rw [two_val, pi_val, twoPi_val, ← EReal.coe_mul]
  norm_num

/-- The two angles are equal. -/
theorem angle_eq (p : EReal) : angleK p = angleR p := by
  unfold angleK angleR
  rw [two_pi, mul_assoc]
  rfl

/-- A square is not negative. -/
theorem sq_nonneg (x : EReal) : 0 ≤ x * x := by
  exact EReal.mul_nonneg_iff.2 ((le_total 0 x).imp (fun h => ⟨h, h⟩) fun h => ⟨h, h⟩)

/-- A squared scale is not negative. -/
theorem scaleSq_nonneg (p : EReal) : 0 ≤ scaleSq p := sq_nonneg _

/-- A diagonal entry of the covariance is not negative. -/
theorem sigA_nonneg (c s u v : EReal) (hu : 0 ≤ u) (hv : 0 ≤ v) : 0 ≤ sigA c s u v :=
  add_nonneg (EReal.mul_nonneg (sq_nonneg c) hu) (EReal.mul_nonneg (sq_nonneg s) hv)

/-- The other diagonal entry is not negative. -/
theorem sigC_nonneg (c s u v : EReal) (hu : 0 ≤ u) (hv : 0 ≤ v) : 0 ≤ sigC c s u v :=
  add_nonneg (EReal.mul_nonneg (sq_nonneg s) hu) (EReal.mul_nonneg (sq_nonneg c) hv)

/-- Any factor distributes over a sum whose two terms are one number times two numbers that are not negative: the
    terms then have the same sign. -/
theorem distrib_same_sign (f d a b : EReal) (ha : 0 ≤ a) (hb : 0 ≤ b) : f * (d * a + d * b) = f * (d * a) + f * (d * b) := by
  rcases le_total 0 d with h | h
  · exact EReal.left_distrib_of_nonneg (EReal.mul_nonneg h ha) (EReal.mul_nonneg h hb)
  · have he : 0 ≤ -d := EReal.neg_nonneg.2 h
    have hP : 0 ≤ -d * a := EReal.mul_nonneg he ha
    have hQ : 0 ≤ -d * b := EReal.mul_nonneg he hb
    have key (x : EReal) : d * x = -(-d * x) := by rw [EReal.neg_mul, neg_neg]
    have flip (x : EReal) : f * -x = -f * x := by rw [mul_comm f, EReal.neg_mul, EReal.neg_mul, mul_comm x]
    rw [key a, key b, ← sub_eq_add_neg, ← EReal.neg_add (.inl (ne_of_gt (lt_of_lt_of_le EReal.bot_lt_zero hP)))
      (.inr (ne_of_gt (lt_of_lt_of_le EReal.bot_lt_zero hQ))), flip, flip, flip, EReal.left_distrib_of_nonneg hP hQ]

/-- The two exponents are equal where the covariance's diagonal is not negative. -/
theorem power_eq (A B C dx dy : EReal) (hA : 0 ≤ A) (hC : 0 ≤ C) : powerK A B C dx dy = powerR A B C dx dy := by
  unfold powerK powerR
  generalize invDet A B C = d
  rw [show C * d * dx * dx + A * d * dy * dy = d * (C * (dx * dx)) + d * (A * (dy * dy)) by ac_rfl,
    distrib_same_sign mhalf d _ _ (EReal.mul_nonneg hC (sq_nonneg dx)) (EReal.mul_nonneg hA (sq_nonneg dy)), zero_sub,
    show mhalf * C * d * dx * dx = mhalf * (d * (C * (dx * dx))) by ac_rfl,
    show mhalf * A * d * dy * dy = mhalf * (d * (A * (dy * dy))) by ac_rfl]

/-! ## One Gaussian, from its eight parameters -/

/-- The covariance's first diagonal entry at an angle. -/
def covA (t : EReal) (g : Fin 8 → EReal) : EReal := sigA (Ideal.cos t) (Ideal.sin t) (scaleSq (g 2)) (scaleSq (g 3))
/-- The covariance's entry off the diagonal at an angle. -/
def covB (t : EReal) (g : Fin 8 → EReal) : EReal := sigB (Ideal.cos t) (Ideal.sin t) (scaleSq (g 2)) (scaleSq (g 3))
/-- The covariance's second diagonal entry at an angle. -/
def covC (t : EReal) (g : Fin 8 → EReal) : EReal := sigC (Ideal.cos t) (Ideal.sin t) (scaleSq (g 2)) (scaleSq (g 3))

/-- What the first kernel derives from a Gaussian: the mean, the three coefficients of the exponent, and the three
    colours times the opacity `o`. -/
def derived (g : Fin 8 → EReal) (o : EReal) : Fin 8 → EReal :=
  ![mean (g 0), mean (g 1),
    mhalf * covC (angleK (g 4)) g * invDet (covA (angleK (g 4)) g) (covB (angleK (g 4)) g) (covC (angleK (g 4)) g),
    mhalf * covA (angleK (g 4)) g * invDet (covA (angleK (g 4)) g) (covB (angleK (g 4)) g) (covC (angleK (g 4)) g),
    (0 - covB (angleK (g 4)) g) * invDet (covA (angleK (g 4)) g) (covB (angleK (g 4)) g) (covC (angleK (g 4)) g),
    g 5 * o, g 6 * o, g 7 * o]

/-- A Gaussian's weight at a pixel as the second kernel computes it from what the first derives. -/
def weight (d : Fin 8 → EReal) (x y : EReal) : EReal :=
  Ideal.exp (d 2 * (x - d 0) * (x - d 0) + d 3 * (y - d 1) * (y - d 1) - d 4 * (x - d 0) * (y - d 1))

/-- A Gaussian's weight at a pixel as the reference computes it, without the opacity. -/
def weightR (g : Fin 8 → EReal) (x y : EReal) : EReal :=
  Ideal.exp (powerR (covA (angleR (g 4)) g) (covB (angleR (g 4)) g) (covC (angleR (g 4)) g) (x - mean (g 0)) (y - mean (g 1)))

/-- The two weights are equal. -/
theorem weight_eq (g : Fin 8 → EReal) (o x y : EReal) : weight (derived g o) x y = weightR g x y := by
  unfold weightR
  rw [← angle_eq]
  exact congrArg Ideal.exp (power_eq _ _ _ _ _ (sigA_nonneg _ _ _ _ (scaleSq_nonneg _) (scaleSq_nonneg _))
    (sigC_nonneg _ _ _ _ (scaleSq_nonneg _) (scaleSq_nonneg _)))

/-- The colours that the first kernel derives. -/
theorem derived_colour (g : Fin 8 → EReal) (o : EReal) (ch : Fin 3) :
    derived g o ⟨5 + ch, by omega⟩ = g ⟨5 + ch, by omega⟩ * o := by
  fin_cases ch <;> rfl

/-- One Gaussian's share of a pixel's channel is the same in the kernel and in the reference. -/
theorem share_eq (g : Fin 8 → EReal) (o x y : EReal) (ch : Fin 3) :
    weight (derived g o) x y * derived g o ⟨5 + ch, by omega⟩ = o * weightR g x y * g ⟨5 + ch, by omega⟩ := by
  rw [weight_eq, derived_colour]
  ac_rfl

/-! ## The pixels' coordinates -/

/-- A pixel's coordinate: its place on the axis and a half. -/
def place (n : ℕ) : EReal := ((n : ℝ) : EReal) + Splat.half

/-- A small count, read back from its 32-bit word as a signed number. -/
theorem toInt_small (n : ℕ) (h : n < 1024) : (BitVec.ofNat 32 n).toInt = (n : ℤ) := by
  rw [BitVec.toInt_eq_toNat_of_lt (by rw [BitVec.toNat_ofNat]; omega), BitVec.toNat_ofNat, Nat.mod_eq_of_lt (by omega)]

/-- A small count's 32-bit word as a float: the count. -/
theorem sitofp_small (n : ℕ) (h : n < 1024) : FloatOps.sitofp (F := Ideal) .f32 (BitVec.ofNat 32 n) = ((n : ℝ) : EReal) := by
  show (((BitVec.ofNat 32 n).toInt : ℝ) : EReal) = _
  rw [toInt_small n h]
  rfl

end Cert.Splat

end
-- ==== Proof.Raster.lean ====
/- The second kernel's body: eight equal stages, each adding the contribution of 128 Gaussians to the block's
   pixels, and the block that they leave, read at a pixel. -/
module

public import proofs.«01_k».proof.Proof.Gen.KernelIdeal.Frame
public import proofs.«01_k».proof.Proof.Splat
public import Idealize.ShloMosaic.Lib.Pointwise
public import Idealize.ShloMosaic.Lib.Pipeline.ValueKit

@[expose] public section

set_option maxRecDepth 16384

noncomputable section

namespace Cert.KernelIdeal.Raster

open Idealize.ShloMosaic Idealize.ShloMosaic.TcCoe Idealize.SL.Sem
open Cert.KernelIdeal Cert.KernelIdeal.Gen

/-- Row `r` of the derived array, cut to the 128 Gaussians from `o` on, under two unit axes. -/
def row (d : FVec Ideal S8x1024 .f32) (r o : ℕ) (h : S8x1024.Slices ![r, o] S1x128) : FVec Ideal S1x1x128 .f32 :=
  shapeCast S1x1x128 (extractStridedSlice S1x128 ![r, o] d h) shapeCasts_S1x128_S1x1x128

/-- The weights of 128 Gaussians at the block's 2048 pixels: the exponential of the quadratic form. -/
def weights (py : FVec Ideal S16x1x1 .f32) (px : FVec Ideal S1x128x1 .f32) (xs ys ca cc cb : FVec Ideal S1x1x128 .f32) :
    FVec Ideal S2048x128 .bf16 :=
  have dx : FVec Ideal S1x128x128 .f32 :=
    subf (broadcastTo S1x128x128 px broadcasts_S1x128x1_S1x128x128) (broadcastTo S1x128x128 xs broadcasts_S1x1x128_S1x128x128)
  have dy : FVec Ideal S16x1x128 .f32 :=
    subf (broadcastTo S16x1x128 py broadcasts_S16x1x1_S16x1x128) (broadcastTo S16x1x128 ys broadcasts_S1x1x128_S16x1x128)
  have qx : FVec Ideal S1x128x128 .f32 := mulf (mulf (broadcastTo S1x128x128 ca broadcasts_S1x1x128_S1x128x128) dx) dx
  have qy : FVec Ideal S16x1x128 .f32 := mulf (mulf (broadcastTo S16x1x128 cc broadcasts_S1x1x128_S16x1x128) dy) dy
  have qb : FVec Ideal S1x128x128 .f32 := mulf (broadcastTo S1x128x128 cb broadcasts_S1x1x128_S1x128x128) dx
  have q : FVec Ideal S16x128x128 .f32 :=
    subf (addf (broadcastTo S16x128x128 qx broadcasts_S1x128x128_S16x128x128) (broadcastTo S16x128x128 qy broadcasts_S16x1x128_S16x128x128))
      (mulf (broadcastTo S16x128x128 qb broadcasts_S1x128x128_S16x128x128) (broadcastTo S16x128x128 dy broadcasts_S16x1x128_S16x128x128))
  shapeCast S2048x128 (truncf .bf16 (exp q) bitsLt_bf16_f32) shapeCasts_S16x128x128_S2048x128

/-- The colours of 128 Gaussians, five zero rows under them, turned for the product. -/
def colours (c : FVec Ideal S3x128 .f32) : FVec Ideal S128x8 .bf16 :=
  transpose S128x8 [1, 0]
    (truncf .bf16 (concatenate S8x128 0 [⟨S3x128, c⟩, ⟨S5x128, broadcast S5x128 (Scalar.ofBits .f32 0x00000000#32)⟩]
      concatenates_S3x128_S5x128_S8x128_d0) bitsLt_bf16_f32) transposes_S8x128_p1_0_S128x8

/-- One stage: the 128 Gaussians from `o` on added to what the stages before have left. -/
def stage (d : FVec Ideal S8x1024 .f32) (py : FVec Ideal S16x1x1 .f32) (px : FVec Ideal S1x128x1 .f32) (o : ℕ)
    (h0 : S8x1024.Slices ![0, o] S1x128) (h1 : S8x1024.Slices ![1, o] S1x128) (h2 : S8x1024.Slices ![2, o] S1x128)
    (h3 : S8x1024.Slices ![3, o] S1x128) (h4 : S8x1024.Slices ![4, o] S1x128) (h5 : S8x1024.Slices ![5, o] S3x128)
    (acc : FVec Ideal S2048x8 .f32) : FVec Ideal S2048x8 .f32 :=
  addf acc (matmul dot_S2048x128_S128x8_S2048x8_1_0_0_1_n_n none
    (weights py px (row d 0 o h0) (row d 1 o h1) (row d 2 o h2) (row d 3 o h3) (row d 4 o h4))
    (colours (extractStridedSlice S3x128 ![5, o] d h5)) (constant S2048x8 .f32 0x00000000#32))

/-- The body's block from what the eight stages leave. -/
def blockOf (acc : FVec Ideal S2048x8 .f32) : FVec Ideal S1x8x16x128 .f32 :=
  shapeCast S1x8x16x128 (shapeCast S8x16x128 (transpose S8x2048 [1, 0] acc transposes_S2048x8_p1_0_S8x2048)
    shapeCasts_S8x2048_S8x16x128) shapeCasts_S8x16x128_S1x8x16x128

/-- The eight stages, in the body's order, from zero. -/
def stages (d : FVec Ideal S8x1024 .f32) (py : FVec Ideal S16x1x1 .f32) (px : FVec Ideal S1x128x1 .f32) : FVec Ideal S2048x8 .f32 :=
  stage d py px 896 (by decide) (by decide) (by decide) (by decide) (by decide) (by decide)
  <| stage d py px 768 (by decide) (by decide) (by decide) (by decide) (by decide) (by decide)
  <| stage d py px 640 (by decide) (by decide) (by decide) (by decide) (by decide) (by decide)
  <| stage d py px 512 (by decide) (by decide) (by decide) (by decide) (by decide) (by decide)
  <| stage d py px 384 (by decide) (by decide) (by decide) (by decide) (by decide) (by decide)
  <| stage d py px 256 (by decide) (by decide) (by decide) (by decide) (by decide) (by decide)
  <| stage d py px 128 (by decide) (by decide) (by decide) (by decide) (by decide) (by decide)
  <| stage d py px 0 (by decide) (by decide) (by decide) (by decide) (by decide) (by decide) (k1_pay5 (F := Ideal))

/-- What the body leaves in its output block is the eight stages over the block that it loads. -/
theorem out_eq (i : grid1.Coords) (x : Vec Ideal S1x8x1024 .f32) :
    out1_1 (F := Ideal) i x = View.canon [⟨r1_1, blockOf (stages (k1_pay2 (View.ld x r1_0)) (k1_pay3 (F := Ideal) i) (k1_pay4 (F := Ideal)))⟩] := by
  unfold_out out1_1
  rfl

/-! ## The stages at an index -/

/-- A row's cut at a Gaussian. -/
theorem row_apply (d : FVec Ideal S8x1024 .f32) (r o : ℕ) (h : S8x1024.Slices ![r, o] S1x128) (k : Fin 128) (hr : r < 8)
    (ho : o + 128 ≤ 1024) : row d r o h (ix3 0 0 k) = d (ix2 ⟨r, hr⟩ ⟨o + k, by omega⟩) := by
  pointwise [row]

/-- A Gaussian's colour in one of the product's eight columns: the last five are zero. -/
def colour (d : Fin 8 → EReal) (ch : Fin 8) : EReal := if h : (ch : ℕ) < 3 then d ⟨5 + ch, by omega⟩ else 0

/-- The colours of a stage at a Gaussian and a column. -/
theorem colours_apply (d : FVec Ideal S8x1024 .f32) (o : ℕ) (h : S8x1024.Slices ![5, o] S3x128) (k : Fin 128) (ch : Fin 8)
    (ho : o + 128 ≤ 1024) :
    colours (extractStridedSlice S3x128 ![5, o] d h) (ix2 k ch) = colour (fun r => d (ix2 r ⟨o + k, by omega⟩)) ch := by
  pointwise [colours, colour]

/-- The weights at a pixel and a Gaussian, from the Gaussian's eight derived numbers. -/
theorem weights_apply (d : FVec Ideal S8x1024 .f32) (py : FVec Ideal S16x1x1 .f32) (px : FVec Ideal S1x128x1 .f32) (o : ℕ)
    (h0 : S8x1024.Slices ![0, o] S1x128) (h1 : S8x1024.Slices ![1, o] S1x128) (h2 : S8x1024.Slices ![2, o] S1x128)
    (h3 : S8x1024.Slices ![3, o] S1x128) (h4 : S8x1024.Slices ![4, o] S1x128) (p : Fin 2048) (k : Fin 128) (ho : o + 128 ≤ 1024) :
    weights py px (row d 0 o h0) (row d 1 o h1) (row d 2 o h2) (row d 3 o h3) (row d 4 o h4) (ix2 p k)
      = Splat.weight (fun r => d (ix2 r ⟨o + k, by omega⟩)) (px (ix3 0 ⟨p % 128, by omega⟩ 0)) (py (ix3 ⟨p / 128, by omega⟩ 0 0)) := by
  pointwise [weights]
  rw [row_apply d 0 o h0 k (by decide) ho, row_apply d 1 o h1 k (by decide) ho, row_apply d 2 o h2 k (by decide) ho,
    row_apply d 3 o h3 k (by decide) ho, row_apply d 4 o h4 k (by decide) ho]
  rfl

/-- What one Gaussian adds to a pixel in a column. -/
def share (d : FVec Ideal S8x1024 .f32) (x y : EReal) (ch : Fin 8) (j : Fin 1024) : EReal :=
  Splat.weight (fun r => d (ix2 r j)) x y * colour (fun r => d (ix2 r j)) ch

/-- One stage at a pixel and a column: the shares of its 128 Gaussians are added. -/
theorem stage_apply (d : FVec Ideal S8x1024 .f32) (py : FVec Ideal S16x1x1 .f32) (px : FVec Ideal S1x128x1 .f32) (o : ℕ)
    (h0 : S8x1024.Slices ![0, o] S1x128) (h1 : S8x1024.Slices ![1, o] S1x128) (h2 : S8x1024.Slices ![2, o] S1x128)
    (h3 : S8x1024.Slices ![3, o] S1x128) (h4 : S8x1024.Slices ![4, o] S1x128) (h5 : S8x1024.Slices ![5, o] S3x128)
    (acc : FVec Ideal S2048x8 .f32) (p : Fin 2048) (ch : Fin 8) (ho : o + 128 ≤ 1024) :
    stage d py px o h0 h1 h2 h3 h4 h5 acc (ix2 p ch) = acc (ix2 p ch)
      + ∑ k : Fin 128, share d (px (ix3 0 ⟨p % 128, by omega⟩ 0)) (py (ix3 ⟨p / 128, by omega⟩ 0 0)) ch ⟨o + k, by omega⟩ := by
  pointwise [stage]
  refine congrArg (acc (ix2 p ch) + ·) (Finset.sum_congr rfl fun k _ => ?_)
  rw [weights_apply d py px o h0 h1 h2 h3 h4 p k ho, colours_apply d o h5 k ch ho]
  rfl

/-- A sum over the 1024 Gaussians, taken 128 at a time. -/
theorem sum_chunks (f : Fin 1024 → EReal) :
    ∑ j, f j = 0 + ∑ k : Fin 128, f ⟨0 + k, by omega⟩ + ∑ k : Fin 128, f ⟨128 + k, by omega⟩ + ∑ k : Fin 128, f ⟨256 + k, by omega⟩
      + ∑ k : Fin 128, f ⟨384 + k, by omega⟩ + ∑ k : Fin 128, f ⟨512 + k, by omega⟩ + ∑ k : Fin 128, f ⟨640 + k, by omega⟩
      + ∑ k : Fin 128, f ⟨768 + k, by omega⟩ + ∑ k : Fin 128, f ⟨896 + k, by omega⟩ := by
  rw [zero_add, (Fin.sum_univ_tiles 8 128 rfl f : _), Fin.sum_univ_eight]
  rfl

/-- The eight stages at a pixel and a column: the shares of all 1024 Gaussians. -/
theorem stages_apply (d : FVec Ideal S8x1024 .f32) (py : FVec Ideal S16x1x1 .f32) (px : FVec Ideal S1x128x1 .f32) (p : Fin 2048)
    (ch : Fin 8) : stages d py px (ix2 p ch)
      = ∑ j, share d (px (ix3 0 ⟨p % 128, by omega⟩ 0)) (py (ix3 ⟨p / 128, by omega⟩ 0 0)) ch j := by
  have z : k1_pay5 (F := Ideal) (ix2 p ch) = 0 := by pointwise [k1_pay5]
  unfold stages
  rw [sum_chunks]
  iterate 8 rw [stage_apply _ _ _ _ _ _ _ _ _ _ _ p ch (by decide)]
  rw [z]

/-- The block at a column and a pixel. -/
theorem blockOf_apply (acc : FVec Ideal S2048x8 .f32) (ch : Fin 8) (y : Fin 16) (x : Fin 128) :
    blockOf acc (ix4 0 ch y x) = acc (ix2 ⟨y * 128 + x, by omega⟩ ch) := by
  pointwise [blockOf]

/-! ## The pixels' coordinates -/

/-- The column coordinates. -/
theorem px_apply (x : Fin 128) : k1_pay4 (F := Ideal) (ix3 0 x 0) = Splat.place x := by
  pointwise [k1_pay4]
  show (((BitVec.ofNat 32 x).toInt : ℝ) : EReal) + _ = _
  rw [Splat.toInt_small x (by omega)]
  rfl

/-- The row coordinates of block row `i 1`. -/
theorem py_apply (i : grid1.Coords) (y : Fin 16) : k1_pay3 (F := Ideal) i (ix3 y 0 0) = Splat.place ((i 1).val * 16 + y) := by
  have hi : (i 1).val < 8 := (i 1).isLt
  pointwise [k1_pay3]
  show (((BitVec.ofNat 32 y).toInt : ℝ) : EReal) + ((((Scalar.muli (BitVec.ofNat 32 (i 1).val) 16#32).toInt : ℝ) : EReal) + _) = _
  rw [show Scalar.muli (BitVec.ofNat 32 (i 1).val) 16#32 = BitVec.ofNat 32 ((i 1).val * 16) from
    (BitVec.ofNat_mul _ _).symm, Splat.toInt_small y (by omega), Splat.toInt_small _ (by omega), ← add_assoc, ← EReal.coe_add]
  unfold Splat.place
  congr 2
  push_cast
  ring

end Cert.KernelIdeal.Raster

end
-- ==== Proof.Bridge.lean ====
/- What the two kernels leave in their result arrays, as functions of the arrays that they read. -/
module

public import proofs.«01_k».proof.Proof.Raster

@[expose] public section

set_option maxRecDepth 16384

noncomputable section

namespace Cert.KernelIdeal.Bridge

open Idealize.ShloMosaic Idealize.ShloMosaic.TcCoe Idealize.SL.Sem
open Idealize.ShloMosaic.Pipeline (Dat)
open Cert.KernelIdeal Cert.KernelIdeal.Gen

/-! ## The first kernel -/

/-- What the first kernel's body stores, at a row and a Gaussian: what it derives from the Gaussian's parameters. -/
theorem prologue_apply (x0 : FVec Ideal S1x8x1024 .f32) (x1 : FVec Ideal S1x1024 .f32) (r : Fin 8) (k : Fin 1024) :
    k0_pay1 (F := Ideal) (k0_pay2 x0) (k0_pay3 x0) (k0_pay4 x0) (k0_pay10 x0) (k0_pay11 x0) (k0_pay12 x0) x1 (ix3 0 r k)
      = Splat.derived (fun s => x0 (ix3 0 s k)) (x1 (ix2 0 k)) r := by
  pointwise [k0_pay1, k0_pay2, k0_pay3, k0_pay4, k0_pay5, k0_pay6, k0_pay7, k0_pay8, k0_pay9, k0_pay10, k0_pay11, k0_pay12]
  fin_vals r with hr
  all_goals simp only [hr, Nat.reduceSub, Nat.reduceLT, ↓reduceDIte]
  all_goals
    obtain ⟨n, hn⟩ := r
    dsimp only at hr
    subst hr
    rfl

variable (V : (c : Dev nD) → (b : Ref sig .tc) → Buf (Elt Ideal) ((c : Thread nD τ).loc b))

/-- The first kernel's index maps: block `t` of the parameters and of the result, the opacities whole. -/
theorem idx0 : ∀ t : Fin cfg0.N, win0_0.index t = ![t.val, 0, 0] ∧ win0_1.index t = ![0, 0] ∧ win0_2.index t = ![t.val, 0, 0] :=
  (by decide +kernel : ∀ t : Fin grid0.N, _)

/-- The derived array from the transposed parameters and the opacities. -/
def derivedArr (D : FVec Ideal S8x8x1024 .f32) (O : FVec Ideal S1x1024 .f32) : FVec Ideal S8x8x1024 .f32 :=
  fun i => Splat.derived (fun s => D (ix3 (i 0) s (i 2))) (O (ix2 0 (i 2))) (i 1)

/-- What the first kernel derives depends on the parameters, the opacity and the row alone. -/
theorem derived_congr {g g' : Fin 8 → EReal} {o o' : EReal} {r r' : Fin 8} (hg : ∀ s, g s = g' s) (ho : o = o') (hr : r = r') :
    Splat.derived g o r = Splat.derived g' o' r' := by
  rw [funext hg, ho, hr]

/-- The first kernel's result array after its region. -/
theorem final0 (c : Dev nD) : (dat0 V c).arrAt 2 cfg0.N = derivedArr (V c main_call0_v0) (V c main_call0_v1) := by
  refine (dat0 V c).arrAt_eq_of_covers 2 _ (by decide +kernel) fun t _ y => ?_
  blk_simp
  rw [after0_2]
  frame_out
  have hy : y = (ix3 0 (y 1) (y 2) : S1x8x1024.Idx) := by blk_ext
  refine ((congrArg _ hy).trans (prologue_apply (iblk0 V c 0 t) (iblk0 V c 1 t) (y 1) (y 2))).trans ?_
  unfold derivedArr
  refine derived_congr (fun s => ?_) ?_ ?_
  · blk_ext [iblk0, idx0 t]
  · blk_ext [iblk0, idx0 t]
  · refine Fin.ext ?_
    blk_simp [idx0 t]

/-! ## The second kernel -/

/-- The second kernel's index maps: the derived array's batch, and the result's block of 16 rows. -/
theorem idx1 : ∀ t : Fin cfg1.N, win1_0.index t = ![t.val / 8, 0, 0] ∧ win1_1.index t = ![t.val / 8, 0, t.val % 8, 0]
    ∧ (grid1.coords t 1).val = t.val % 8 ∧ t.val / 8 < 8 :=
  (by decide +kernel : ∀ t : Fin grid1.N, _)

/-- The image array from the derived array: eight columns, three of them the channels. -/
def imageArr (D : FVec Ideal S8x8x1024 .f32) : FVec Ideal S8x8x128x128 .f32 :=
  fun i => ∑ j, Raster.share (fun l => D (ix3 (i 0) (l 0) (l 1))) (Splat.place (i 3)) (Splat.place (i 2)) (i 1) j

/-- What the second kernel's body stores, at a column and a pixel: the shares of all the Gaussians. -/
theorem raster_apply (i : grid1.Coords) (x : FVec Ideal S1x8x1024 .f32) (ch : Fin 8) (p : Fin 16) (q : Fin 128) :
    Raster.blockOf (Raster.stages (k1_pay2 x) (k1_pay3 (F := Ideal) i) (k1_pay4 (F := Ideal))) (ix4 0 ch p q)
      = ∑ j, Raster.share (fun l => x (ix3 0 (l 0) (l 1))) (Splat.place q) (Splat.place ((i 1).val * 16 + p)) ch j := by
  rw [Raster.blockOf_apply, Raster.stages_apply]
  have hq : (⟨(p * 128 + q : ℕ) % 128, by omega⟩ : Fin 128) = q := Fin.ext (by dsimp only; omega)
  have hp : (⟨(p * 128 + q : ℕ) / 128, by omega⟩ : Fin 16) = p := Fin.ext (by dsimp only; omega)
  simp only [hq, hp, Raster.px_apply, Raster.py_apply]
  rw [show k1_pay2 (F := Ideal) x = fun l => x (ix3 0 (l 0) (l 1)) from funext fun l => by pointwise [k1_pay2]]

/-- A share depends on the Gaussian's eight derived numbers, the pixel's coordinates and the column alone. -/
theorem share_congr {d d' : FVec Ideal S8x1024 .f32} {x x' y y' : EReal} {ch ch' : Fin 8} {j : Fin 1024}
    (hd : ∀ r, d (ix2 r j) = d' (ix2 r j)) (hx : x = x') (hy : y = y') (hc : ch = ch') :
    Raster.share d x y ch j = Raster.share d' x' y' ch' j := by
  unfold Raster.share
  rw [funext hd, hx, hy, hc]

/-- The second kernel's result array after its region. -/
theorem final1 (c : Dev nD) : (dat1 V c).arrAt 1 cfg1.N = imageArr (V c main_call0_v2) := by
  refine (dat1 V c).arrAt_eq_of_covers 1 _ (by decide +kernel) fun t _ y => ?_
  blk_simp
  rw [after1_1, Raster.out_eq]
  frame_out
  have hy : y = (ix4 0 (y 1) (y 2) (y 3) : S1x8x16x128.Idx) := by blk_ext
  refine ((congrArg _ hy).trans (raster_apply (grid1.coords t) (iblk1 V c 0 t) (y 1) (y 2) (y 3))).trans ?_
  unfold imageArr
  refine Finset.sum_congr rfl fun j _ => share_congr (fun r => ?_) ?_ ?_ ?_
  · blk_ext [iblk1, idx1 t]
  · refine congrArg Splat.place ?_
    blk_simp [idx1 t]
  · refine congrArg Splat.place ?_
    blk_simp [idx1 t]
  · refine Fin.ext ?_
    blk_simp [idx1 t]

end Cert.KernelIdeal.Bridge

end
-- ==== Proof.KernelRun.lean ====
/- The idealized kernel's whole run: its result array is a closed function of its arguments. -/
module

public import proofs.«01_k».proof.Proof.Bridge
public import Idealize.ShloMosaic.Lib.Claim

@[expose] public section

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The result array's contents -/

/-- The transposed parameters and the flattened opacities, as the host hands them to the first kernel. -/
theorem entry (c : Dev nD) :
    V1 m ρ c main_call0_v0 = (transpose S8x8x1024 [0, 2, 1] (m ((c : Thread nD τ).loc main_arg0) : FVec Ideal S8x1024x8 .f32)
        transposes_S8x1024x8_S8x8x1024_0_2_1 : FVec Ideal S8x8x1024 .f32)
      ∧ V1 m ρ c main_call0_v1 = (shapeCast S1x1024 (m ((c : Thread nD τ).loc main_arg1) : FVec Ideal S1024x1 .f32)
        shapeCasts_S1024x1_S1x1024 : FVec Ideal S1x1024 .f32) := by
  constructor
  · show StableHlo.after hostOps0 (W0 m ρ c) _ = _
    after_results
    rfl
  · show StableHlo.after hostOps0 (W0 m ρ c) _ = _
    after_results
    rfl

/-- What the host's last line leaves in the result array: the second kernel's image, its first three columns, and the
    background added. -/
theorem exit (c : Dev nD) :
    W4 m ρ c (Proc.devRef .tc main_v0) = (addf
      (extractStridedSlice S8x3x128x128 ![0, 0, 0, 0] (W3 m ρ c (Proc.devRef .tc main_call0_v3) : FVec Ideal S8x8x128x128 .f32)
        slices_S8x8x128x128_S8x3x128x128_0_0_0_0)
      (broadcastInDim S8x3x128x128 ![0, 1, 2, 3] bcast_S1x3x1x1_S8x3x128x128_0_1_2_3
        (broadcastInDim S1x3x1x1 ![1] bcast_S3_S1x3x1x1_1
          (W3 m ρ c (Proc.devRef .tc main_arg2) : FVec Ideal S3 .f32))) : FVec Ideal S8x3x128x128 .f32) := by
  show StableHlo.after hostOps2 (W3 m ρ c) _ = _
  after_results
  rfl

/-- The kernel's result from its arguments, at an index: the sum over the Gaussians of the weight that the second kernel
    computes times the colour that the first derives, plus the background. -/
def image (X : FVec Ideal S8x1024x8 .f32) (O : FVec Ideal S1024x1 .f32) (B : FVec Ideal S3 .f32) (b : Fin 8) (ch : Fin 3)
    (y x : Fin 128) : EReal :=
  (∑ j : Fin 1024, Splat.weight (Splat.derived (fun r => X (ix3 b j r)) (O (ix2 j 0))) (Splat.place x) (Splat.place y)
    * Splat.derived (fun r => X (ix3 b j r)) (O (ix2 j 0)) ⟨5 + ch, by omega⟩) + B (ix1 ch)

/-- The two kernels' result and the host's last line, over the transposed parameters and the flattened opacities, read
    at an index. -/
theorem image_apply (X : FVec Ideal S8x1024x8 .f32) (O : FVec Ideal S1024x1 .f32) (B : FVec Ideal S3 .f32) (b : Fin 8) (ch : Fin 3)
    (y x : Fin 128) :
    addf (extractStridedSlice S8x3x128x128 ![0, 0, 0, 0]
        (Bridge.imageArr (Bridge.derivedArr (transpose S8x8x1024 [0, 2, 1] X transposes_S8x1024x8_S8x8x1024_0_2_1)
          (shapeCast S1x1024 O shapeCasts_S1024x1_S1x1024))) slices_S8x8x128x128_S8x3x128x128_0_0_0_0)
      (broadcastInDim S8x3x128x128 ![0, 1, 2, 3] bcast_S1x3x1x1_S8x3x128x128_0_1_2_3
        (broadcastInDim S1x3x1x1 ![1] bcast_S3_S1x3x1x1_1 B)) (ix4 b ch y x) = image X O B b ch y x := by
  pointwise [Bridge.imageArr, Bridge.derivedArr, Raster.share, Raster.colour, image]

/-- The result array after the run, at an index. -/
theorem result (c : Dev nD) (b : Fin 8) (ch : Fin 3) (y x : Fin 128) :
    (W4 m ρ c (Proc.devRef .tc main_v0) : FVec Ideal S8x3x128x128 .f32) (ix4 b ch y x)
      = image (m ((c : Thread nD τ).loc main_arg0)) (m ((c : Thread nD τ).loc main_arg1)) (m ((c : Thread nD τ).loc main_arg2)) b ch y x := by
  have h3 : W3 m ρ c (Proc.devRef .tc main_call0_v3) = Bridge.imageArr (V2 m ρ c main_call0_v2) :=
    (W3_arr m ρ c 1).trans (Bridge.final1 (V2 m ρ) c)
  have h2 : V2 m ρ c main_call0_v2 = Bridge.derivedArr (V1 m ρ c main_call0_v0) (V1 m ρ c main_call0_v1) :=
    (W2_arr m ρ c 2).trans (Bridge.final0 (V1 m ρ) c)
  have hB : W3 m ρ c (Proc.devRef .tc main_arg2) = m ((c : Thread nD τ).loc main_arg2) := W3_args m ρ c main_arg2 (by decide)
  rw [exit, h3, h2, hB, (entry m ρ c).1, (entry m ρ c).2]
  exact image_apply _ _ _ b ch y x

/-! ## The run -/

set_option backward.isDefEq.respectTransparency.types false in
/-- The idealized kernel runs from any memory; at the end its result array holds what the host's last line leaves, and
    its arguments are as they were. -/
theorem run : θ_run defs (onTc (τ := τ) (main (F := Ideal))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KernelRun

end
-- ==== Proof.RefValue.lean ====
/- The reference's result, read at an index: its shared parts one after another, then the sum over the Gaussians. -/
module

public import proofs.«01_k».proof.Proof.Splat
public import proofs.«01_k».proof.Proof.Gen.ReferenceIdeal.Read
public import Idealize.ShloMosaic.Lib.Pointwise

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read

variable (X : FVec Ideal S8x1024x8 .f32) (O : FVec Ideal S1024x1 .f32) (B : FVec Ideal S3 .f32)

/-- The eight parameters of Gaussian `j` of batch `b`. -/
def params (b : Fin 8) (j : Fin 1024) (r : Fin 8) : EReal := X (ix3 b j r)

/-- The means on the horizontal axis. -/
theorem xs_apply (b : Fin 8) (j : Fin 1024) : val_main_v26 (F := Ideal) X (ix2 b j) = Splat.mean (params X b j 0) := by
  pointwise [val_main_v26, val_main_v25, val_main_v24, val_main_v23, val_main_v22, val_main_v21, val_main_v20, val_main_v19,
    val_main_v1, val_main_v0, val_main_cst_4, val_main_cst_5, val_main_cst_6]
  rfl

/-- The means on the vertical axis. -/
theorem ys_apply (b : Fin 8) (j : Fin 1024) : val_main_v34 (F := Ideal) X (ix2 b j) = Splat.mean (params X b j 1) := by
  pointwise [val_main_v34, val_main_v33, val_main_v32, val_main_v31, val_main_v30, val_main_v29, val_main_v28, val_main_v27,
    val_main_v1, val_main_v0, val_main_cst_7, val_main_cst_8, val_main_cst_9]
  rfl

/-- The first squared scale. -/
theorem sx_apply (b : Fin 8) (j : Fin 1024) : val_main_v41 (F := Ideal) X (ix2 b j) = Splat.scaleSq (params X b j 2) := by
  pointwise [val_main_v41, val_main_v40, val_main_v39, val_main_v38, val_main_v37, val_main_v5, val_main_v4, val_main_v3, val_main_v2,
    val_main_cst]
  rfl

/-- The second squared scale. -/
theorem sy_apply (b : Fin 8) (j : Fin 1024) : val_main_v46 (F := Ideal) X (ix2 b j) = Splat.scaleSq (params X b j 3) := by
  pointwise [val_main_v46, val_main_v45, val_main_v44, val_main_v43, val_main_v42, val_main_v5, val_main_v4, val_main_v3, val_main_v2,
    val_main_cst]
  rfl

/-- The angle. -/
theorem angle_apply (b : Fin 8) (j : Fin 1024) : val_main_v17 (F := Ideal) X (ix2 b j) = Splat.angleR (params X b j 4) := by
  pointwise [val_main_v17, val_main_v16, val_main_v15, val_main_v14, val_main_v13, val_main_v12, val_main_v11, val_main_v10,
    val_main_v9, val_main_v8, val_main_v7, val_main_v6, val_main_cst_0, val_main_cst_1, val_main_cst_2, val_main_cst_3]
  rfl

/-- The angle's cosine. -/
theorem cos_apply (b : Fin 8) (j : Fin 1024) :
    val_main_v35 (F := Ideal) X (ix2 b j) = Ideal.cos (Splat.angleR (params X b j 4)) := by
  rw [← angle_apply]; rfl

/-- The angle's sine. -/
theorem sin_apply (b : Fin 8) (j : Fin 1024) :
    val_main_v36 (F := Ideal) X (ix2 b j) = Ideal.sin (Splat.angleR (params X b j 4)) := by
  rw [← angle_apply]; rfl

/-- The covariance's first diagonal entry. -/
theorem covA_apply (b : Fin 8) (j : Fin 1024) :
    val_main_v51 (F := Ideal) X (ix2 b j) = Splat.covA (Splat.angleR (params X b j 4)) (params X b j) := by
  pointwise [val_main_v51, val_main_v50, val_main_v49, val_main_v48, val_main_v47, cos_apply, sin_apply, sx_apply, sy_apply]
  rfl

/-- The covariance's entry off the diagonal. -/
theorem covB_apply (b : Fin 8) (j : Fin 1024) :
    val_main_v54 (F := Ideal) X (ix2 b j) = Splat.covB (Splat.angleR (params X b j 4)) (params X b j) := by
  pointwise [val_main_v54, val_main_v53, val_main_v52, cos_apply, sin_apply, sx_apply, sy_apply]
  rfl

/-- The covariance's second diagonal entry. -/
theorem covC_apply (b : Fin 8) (j : Fin 1024) :
    val_main_v59 (F := Ideal) X (ix2 b j) = Splat.covC (Splat.angleR (params X b j 4)) (params X b j) := by
  pointwise [val_main_v59, val_main_v58, val_main_v57, val_main_v56, val_main_v55, cos_apply, sin_apply, sx_apply, sy_apply]
  rfl

/-- One over the determinant. -/
theorem inv_apply (b : Fin 8) (j : Fin 1024) :
    val_main_v64 (F := Ideal) X (ix2 b j) = Splat.invDet (Splat.covA (Splat.angleR (params X b j 4)) (params X b j))
      (Splat.covB (Splat.angleR (params X b j 4)) (params X b j)) (Splat.covC (Splat.angleR (params X b j 4)) (params X b j)) := by
  pointwise [val_main_v64, val_main_v63, val_main_v62, val_main_v61, val_main_v60, val_main_cst_10, covA_apply, covB_apply, covC_apply]
  rfl

/-- The pixels' horizontal offsets from the means. -/
theorem dx_apply (b : Fin 8) (p : Fin 16384) (j : Fin 1024) :
    val_main_v82 (F := Ideal) X (ix3 b p j) = Splat.place (p % 128) - Splat.mean (params X b j 0) := by
  pointwise [val_main_v82, val_main_v81, val_main_v80, val_main_v79, val_main_v78, val_main_v77, val_main_v76, val_main_v71,
    val_main_v70, val_main_v69, val_main_cst_11, xs_apply]
  rw [show FloatOps.sitofp (F := Ideal) .f32 (BitVec.ofNat 32 (p % 128)) = (((p % 128 : ℕ) : ℝ) : EReal) from
    Splat.sitofp_small _ (by omega)]
  rfl

/-- The pixels' vertical offsets from the means. -/
theorem dy_apply (b : Fin 8) (p : Fin 16384) (j : Fin 1024) :
    val_main_v88 (F := Ideal) X (ix3 b p j) = Splat.place (p / 128) - Splat.mean (params X b j 1) := by
  pointwise [val_main_v88, val_main_v87, val_main_v86, val_main_v85, val_main_v84, val_main_v83, val_main_v75, val_main_v74,
    val_main_v73, val_main_v72, val_main_cst_12, ys_apply]
  rw [show FloatOps.sitofp (F := Ideal) .f32 (BitVec.ofNat 32 (p / 128)) = (((p / 128 : ℕ) : ℝ) : EReal) from
    Splat.sitofp_small _ (by omega)]
  rfl

/-- The weights without the opacity. -/
theorem weight_apply (b : Fin 8) (p : Fin 16384) (j : Fin 1024) :
    val_main_v106 (F := Ideal) X (ix3 b p j) = Splat.weightR (params X b j) (Splat.place (p % 128)) (Splat.place (p / 128)) := by
  pointwise [val_main_v106, val_main_v104, val_main_v103, val_main_v102, val_main_v101, val_main_v100, val_main_v99, val_main_v98,
    val_main_v97, val_main_v96, val_main_v95, val_main_v94, val_main_v93, val_main_v92, val_main_v91, val_main_v90, val_main_v89,
    val_main_v68, val_main_v67, val_main_v66, val_main_v65, val_main_cst_13, dx_apply, dy_apply, inv_apply, covA_apply, covB_apply,
    covC_apply]
  rfl

/-- The reference's image at an index. -/
theorem image_apply (b : Fin 8) (ch : Fin 3) (y x : Fin 128) :
    val_main_v116 (F := Ideal) X O B (ix4 b ch y x)
      = (∑ j : Fin 1024, O (ix2 j 0) * Splat.weightR (params X b j) (Splat.place x) (Splat.place y) * params X b j ⟨5 + ch, by omega⟩) + B (ix1 ch) := by
  pointwise [val_main_v116, val_main_v115, val_main_v114, val_main_v113, val_main_v112, val_main_v111, val_main_v110, val_main_v109,
    val_main_v108, val_main_v107, val_main_v105, val_main_v18, weight_apply]
  rw [show (y * 128 + x : ℕ) % 128 = x by omega, show (y * 128 + x : ℕ) / 128 = y by omega]
  rfl

end Cert.ReferenceIdeal.RefValue

end
-- ==== Proof.lean ====
module

public import proofs.«01_k».proof.Defs
public import proofs.«01_k».proof.Proof.Gen.Kernel.Frame
public import proofs.«01_k».proof.Proof.KernelRun
public import proofs.«01_k».proof.Proof.RefValue
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's image and the reference's are equal at every index: each Gaussian's share of a pixel is. -/
theorem images_eq (X : FVec Ideal Cert.KernelIdeal.S8x1024x8 .f32) (O : FVec Ideal Cert.KernelIdeal.S1024x1 .f32)
    (B : FVec Ideal Cert.KernelIdeal.S3 .f32) (b : Fin 8) (ch : Fin 3) (y x : Fin 128) :
    Cert.KernelIdeal.KernelRun.image X O B b ch y x
      = Cert.ReferenceIdeal.Read.val_main_v116 (F := Ideal) X O B (ix4 b ch y x) := by
  rw [Cert.ReferenceIdeal.RefValue.image_apply]
  exact congrArg (· + B (ix1 ch)) (Finset.sum_congr rfl fun j _ => Splat.share_eq _ _ _ _ _)

/-- On the same arguments the idealized kernel and the idealized reference end with equal results. -/
theorem algebraic : Cert.algebraic_KernelIdeal_ReferenceIdeal := by
  pair_intro
  · run_from Cert.KernelIdeal.KernelRun.run m g
  · run_from Cert.ReferenceIdeal.Value.run m' g'
    rw [Cert.ReferenceIdeal.Read.val_main_v116_eq, (hagree c).1, (hagree c).2.1, (hagree c).2.2]
    funext i
    rw [eq_ix4 i]
    exact ((Cert.KernelIdeal.KernelRun.result m g c _ _ _ _).trans (images_eq _ _ _ _ _ _ _)).symm

/-- The reference ends with its arguments unchanged and every counter at zero: it declares no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Every claim of this certificate: each of the three programs runs to its end with its arguments unchanged and every
    counter at zero, the idealization rewrites nothing, and the kernel's result is the reference's over the extended
    reals. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
